-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)

variable [Facts]

def fn {F : FTy → Type} [FloatOps F] (main_arg0 : FVec F S4x4096x3 .f32) (main_arg1 : FVec F S4x4096x3 .f32) : IVec S4x4096x3 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_v3 : FVec F S4x4096x3 .f32 := Host.absf main_arg1
  let main_cst_0 : FVec F S_ .f32 := constant S_ .f32 0x7F800000#32
  let main_v4 : FVec F S4x4096x3 .f32 := broadcastInDim S4x4096x3 ![] bcast_S_S4x4096x3 main_cst_0
  let main_v5 : IVec S4x4096x3 1 := cmpf .olt main_v3 main_v4
  let main_v6 : IVec S4x4096x3 1 := andi main_v2 main_v5
  main_v6
-- ==== Kernel.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x4096x8 : Shape := ⟨3, ![4, 4096, 8]⟩
abbrev S4x4096x48 : Shape := ⟨3, ![4, 4096, 48]⟩
abbrev S1x1 : Shape := ⟨2, ![1, 1]⟩
abbrev S1x4096x48 : Shape := ⟨3, ![1, 4096, 48]⟩
abbrev S4096x48 : Shape := ⟨2, ![4096, 48]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩

abbrev nBuf : Space → Nat
  | .hbm => 41
  | .vmem => 2
  | .smem => 1
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S_, .f32⟩
  | .hbm, ⟨15, _⟩ => ⟨S4x4096x3, .f32⟩
  | .hbm, ⟨16, _⟩ => ⟨S_, .f32⟩
  | .hbm, ⟨17, _⟩ => ⟨S4x4096x3, .f32⟩
  | .hbm, ⟨18, _⟩ => ⟨S_, .f32⟩
  | .hbm, ⟨19, _⟩ => ⟨S4x4096x3, .f32⟩
  | .hbm, ⟨20, _⟩ => ⟨S4x4096x3, .f32⟩
  | .hbm, ⟨21, _⟩ => ⟨S4x4096x8, .f32⟩
  | .hbm, ⟨22, _⟩ => ⟨S4x4096x8, .f32⟩
  | .hbm, ⟨23, _⟩ => ⟨S4x4096x8, .bf16⟩
  | .hbm, ⟨24, _⟩ => ⟨S4x4096x8, .f32⟩
  | .hbm, ⟨25, _⟩ => ⟨S4x4096x8, .f32⟩
  | .hbm, ⟨26, _⟩ => ⟨S4x4096x8, .bf16⟩
  | .hbm, ⟨27, _⟩ => ⟨S4x4096x8, .f32⟩
  | .hbm, ⟨28, _⟩ => ⟨S4x4096x8, .f32⟩
  | .hbm, ⟨29, _⟩ => ⟨S4x4096x8, .bf16⟩
  | .hbm, ⟨30, _⟩ => ⟨S4x4096x8, .bf16⟩
  | .hbm, ⟨31, _⟩ => ⟨S4x4096x8, .f32⟩
  | .hbm, ⟨32, _⟩ => ⟨S4x4096x8, .f32⟩
  | .hbm, ⟨33, _⟩ => ⟨S4x4096x8, .bf16⟩
  | .hbm, ⟨34, _⟩ => ⟨S4x4096x8, .f32⟩
  | .hbm, ⟨35, _⟩ => ⟨S4x4096x8, .f32⟩
  | .hbm, ⟨36, _⟩ => ⟨S4x4096x8, .bf16⟩
  | .hbm, ⟨37, _⟩ => ⟨S4x4096x48, .bf16⟩
  | .hbm, ⟨38, _⟩ => ⟨S4x4096x48, .bf16⟩
  | .hbm, ⟨39, _⟩ => ⟨S1x1, .f32⟩
  | .hbm, ⟨40, _⟩ => ⟨S_, .f32⟩
  | .local _ .vmem, ⟨0, _⟩ => ⟨S4x4096x48, .bf16⟩
  | .local _ .vmem, ⟨1, _⟩ => ⟨S4x4096x48, .bf16⟩
  | .local _ .smem, ⟨0, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_cst_1 : Ref sig .tc := ⟨.hbm, 10, rfl⟩
abbrev main_call0_v6 : Ref sig .tc := ⟨.hbm, 11, rfl⟩
abbrev main_call0_cst_2 : Ref sig .tc := ⟨.hbm, 12, rfl⟩
abbrev main_call0_v7 : Ref sig .tc := ⟨.hbm, 13, rfl⟩
abbrev main_call0_cst_3 : Ref sig .tc := ⟨.hbm, 14, rfl⟩
abbrev main_call0_v8 : Ref sig .tc := ⟨.hbm, 15, rfl⟩
abbrev main_call0_cst_4 : Ref sig .tc := ⟨.hbm, 16, rfl⟩
abbrev main_call0_v9 : Ref sig .tc := ⟨.hbm, 17, rfl⟩
abbrev main_call0_cst_5 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_v0 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x4096x48 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x1x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.KernelIdealLaunch.lean ====
/- The launch facts of `KernelIdeal`: the layout facts its one custom call needs, the one grid point, the host operations
   before and after the call as lists, and @main as the chain of the three. The text follows the generated launch kit,
   without its statement of @main as a run of segments, which this certificate does not use. -/
module

public import proofs.«01_k».proof.Proof.Gen.KernelIdeal
public import Idealize.ShloMosaic.Lib.Pipeline.Kit
public import Idealize.ShloMosaic.Lib.Pipeline.Regions

@[expose] public section

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 3, 0 < (spec0 w).block.numel := by decide
/-- The windows' arrays and the staging memrefs are whole buffers. -/
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun _ => Memref.isWhole_whole _ | 1 => fun _ => Memref.isWhole_whole _ | 2 => fun _ => Memref.isWhole_whole _ | ⟨_ + 3, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- No grid: one point. -/
theorem N_0 : grid0.N = 1 := by decide
/-- The point. -/
def t0_0 : Fin grid0.N := ⟨0, by rw [N_0]; decide⟩
theorem fin_N0 (t : Fin grid0.N) : t = t0_0 := by
  obtain ⟨t, ht⟩ := t; have := N_0; simp only [t0_0, Fin.mk.injEq]; omega

/-- The windows conjoined one by one. -/
theorem bigSep_W0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide) (by decide)
-- the unscoped rest of custom_call 0 is 38 buffers: not enumerated (routed whole, as `Pipeline.unscopedRest`)

/-! ## @main as segments and as a chain of items (Lib/Pipeline/Regions.lean `θ_run_regions_kit`, `Pipeline.chain`) -/

/-- 37 host operations of @kernel (main_call0), in order. -/
abbrev hostOps0 : List (HloOp τ sig (Elt F)) :=
  ( StableHlo.TRef.binary (.of main_arg0 : StableHlo.TRef sig ⟨S4x4096x3, .f32⟩) (.of main_arg0 : StableHlo.TRef sig ⟨S4x4096x3, .f32⟩) (.of main_call0_v0 : StableHlo.TRef sig ⟨S4x4096x3, .f32⟩) mulf
  :: StableHlo.TRef.nullary (.of main_call0_cst : StableHlo.TRef sig ⟨S_, .f32⟩) (constant S_ .f32 0x00000000#32)
  :: StableHlo.TRef.binary (.of main_call0_v0 : StableHlo.TRef sig ⟨S4x4096x3, .f32⟩) (.of main_call0_cst : StableHlo.TRef sig ⟨S_, .f32⟩) (.of main_call0_v1 : StableHlo.TRef sig ⟨S4x4096, .f32⟩) (fun x v => Host.reduceAdd x v reducesTo_S4x4096x3_S4x4096_d2 h_S_)
  :: StableHlo.TRef.unary (.of main_call0_v1 : StableHlo.TRef sig ⟨S4x4096, .f32⟩) (.of main_call0_v2 : StableHlo.TRef sig ⟨S4x4096x1, .f32⟩) (broadcastInDim S4x4096x1 ![0, 1] bcast_S4x4096_S4x4096x1_0_1)
  :: StableHlo.TRef.binary (.of main_arg1 : StableHlo.TRef sig ⟨S4x4096x3, .f32⟩) (.of main_arg1 : StableHlo.TRef sig ⟨S4x4096x3, .f32⟩) (.of main_call0_v3 : StableHlo.TRef sig ⟨S4x4096x3, .f32⟩) mulf
  :: StableHlo.TRef.nullary (.of main_call0_cst_0 : StableHlo.TRef sig ⟨S_, .f32⟩) (constant S_ .f32 0x00000000#32)
  :: StableHlo.TRef.binary (.of main_call0_v3 : StableHlo.TRef sig ⟨S4x4096x3, .f32⟩) (.of main_call0_cst_0 : StableHlo.TRef sig ⟨S_, .f32⟩) (.of main_call0_v4 : StableHlo.TRef sig ⟨S4x4096, .f32⟩) (fun x v => Host.reduceAdd x v reducesTo_S4x4096x3_S4x4096_d2 h_S_)
  :: StableHlo.TRef.unary (.of main_call0_v4 : StableHlo.TRef sig ⟨S4x4096, .f32⟩) (.of main_call0_v5 : StableHlo.TRef sig ⟨S4x4096x1, .f32⟩) (broadcastInDim S4x4096x1 ![0, 1] bcast_S4x4096_S4x4096x1_0_1)
  :: StableHlo.TRef.nullary (.of main_call0_cst_1 : StableHlo.TRef sig ⟨S_, .f32⟩) (constant S_ .f32 0x3F800000#32)
  :: StableHlo.TRef.unary (.of main_call0_cst_1 : StableHlo.TRef sig ⟨S_, .f32⟩) (.of main_call0_v6 : StableHlo.TRef sig ⟨S4x4096x1, .f32⟩) (broadcastInDim S4x4096x1 ![] bcast_S_S4x4096x1)
  :: StableHlo.TRef.nullary (.of main_call0_cst_2 : StableHlo.TRef sig ⟨S_, .f32⟩) (constant S_ .f32 0x3F800000#32)
  :: StableHlo.TRef.unary (.of main_call0_cst_2 : StableHlo.TRef sig ⟨S_, .f32⟩) (.of main_call0_v7 : StableHlo.TRef sig ⟨S4x4096x1, .f32⟩) (broadcastInDim S4x4096x1 ![] bcast_S_S4x4096x1)
  :: StableHlo.TRef.nullary (.of main_call0_cst_3 : StableHlo.TRef sig ⟨S_, .f32⟩) (constant S_ .f32 0x00000000#32)
  :: StableHlo.TRef.unary (.of main_call0_cst_3 : StableHlo.TRef sig ⟨S_, .f32⟩) (.of main_call0_v8 : StableHlo.TRef sig ⟨S4x4096x3, .f32⟩) (broadcastInDim S4x4096x3 ![] bcast_S_S4x4096x3)
  :: StableHlo.TRef.nullary (.of main_call0_cst_4 : StableHlo.TRef sig ⟨S_, .f32⟩) (constant S_ .f32 0x00000000#32)
  :: StableHlo.TRef.unary (.of main_call0_cst_4 : StableHlo.TRef sig ⟨S_, .f32⟩) (.of main_call0_v9 : StableHlo.TRef sig ⟨S4x4096x3, .f32⟩) (broadcastInDim S4x4096x3 ![] bcast_S_S4x4096x3)
  :: StableHlo.TRef.nullary (.of main_call0_cst_5 : StableHlo.TRef sig ⟨S_, .f32⟩) (constant S_ .f32 0xC0000000#32)
  :: StableHlo.TRef.unary (.of main_call0_cst_5 : StableHlo.TRef sig ⟨S_, .f32⟩) (.of main_call0_v10 : StableHlo.TRef sig ⟨S4x4096x3, .f32⟩) (broadcastInDim S4x4096x3 ![] bcast_S_S4x4096x3)
  :: StableHlo.TRef.binary (.of main_call0_v10 : StableHlo.TRef sig ⟨S4x4096x3, .f32⟩) (.of main_arg0 : StableHlo.TRef sig ⟨S4x4096x3, .f32⟩) (.of main_call0_v11 : StableHlo.TRef sig ⟨S4x4096x3, .f32⟩) mulf
  :: StableHlo.TRef.nary (Ts := ![⟨S4x4096x3, .f32⟩, ⟨S4x4096x1, .f32⟩, ⟨S4x4096x1, .f32⟩, ⟨S4x4096x3, .f32⟩]) (Fin.cons (.of main_call0_v11 : StableHlo.TRef sig ⟨S4x4096x3, .f32⟩) (Fin.cons (.of main_call0_v2 : StableHlo.TRef sig ⟨S4x4096x1, .f32⟩) (Fin.cons (.of main_call0_v6 : StableHlo.TRef sig ⟨S4x4096x1, .f32⟩) (Fin.cons (.of main_call0_v8 : StableHlo.TRef sig ⟨S4x4096x3, .f32⟩) (fun k => k.elim0))))) (.of main_call0_v12 : StableHlo.TRef sig ⟨S4x4096x8, .f32⟩) (fun u => (concatenate S4x4096x8 2 [⟨S4x4096x3, (u 0 : (⟨S4x4096x3, .f32⟩ : BufTy).Contents (Elt F))⟩, ⟨S4x4096x1, (u 1 : (⟨S4x4096x1, .f32⟩ : BufTy).Contents (Elt F))⟩, ⟨S4x4096x1, (u 2 : (⟨S4x4096x1, .f32⟩ : BufTy).Contents (Elt F))⟩, ⟨S4x4096x3, (u 3 : (⟨S4x4096x3, .f32⟩ : BufTy).Contents (Elt F))⟩] concatenates_S4x4096x3_S4x4096x1_S4x4096x1_S4x4096x3_S4x4096x8_d2 : (⟨S4x4096x8, .f32⟩ : BufTy).Contents (Elt F)))
  :: StableHlo.TRef.nary (Ts := ![⟨S4x4096x3, .f32⟩, ⟨S4x4096x1, .f32⟩, ⟨S4x4096x1, .f32⟩, ⟨S4x4096x3, .f32⟩]) (Fin.cons (.of main_arg1 : StableHlo.TRef sig ⟨S4x4096x3, .f32⟩) (Fin.cons (.of main_call0_v7 : StableHlo.TRef sig ⟨S4x4096x1, .f32⟩) (Fin.cons (.of main_call0_v5 : StableHlo.TRef sig ⟨S4x4096x1, .f32⟩) (Fin.cons (.of main_call0_v9 : StableHlo.TRef sig ⟨S4x4096x3, .f32⟩) (fun k => k.elim0))))) (.of main_call0_v13 : StableHlo.TRef sig ⟨S4x4096x8, .f32⟩) (fun u => (concatenate S4x4096x8 2 [⟨S4x4096x3, (u 0 : (⟨S4x4096x3, .f32⟩ : BufTy).Contents (Elt F))⟩, ⟨S4x4096x1, (u 1 : (⟨S4x4096x1, .f32⟩ : BufTy).Contents (Elt F))⟩, ⟨S4x4096x1, (u 2 : (⟨S4x4096x1, .f32⟩ : BufTy).Contents (Elt F))⟩, ⟨S4x4096x3, (u 3 : (⟨S4x4096x3, .f32⟩ : BufTy).Contents (Elt F))⟩] concatenates_S4x4096x3_S4x4096x1_S4x4096x1_S4x4096x3_S4x4096x8_d2 : (⟨S4x4096x8, .f32⟩ : BufTy).Contents (Elt F)))
  :: StableHlo.TRef.unary (.of main_call0_v12 : StableHlo.TRef sig ⟨S4x4096x8, .f32⟩) (.of main_call0_v14 : StableHlo.TRef sig ⟨S4x4096x8, .bf16⟩) (truncf .bf16 · bitsLt_bf16_f32)
  :: StableHlo.TRef.unary (.of main_call0_v14 : StableHlo.TRef sig ⟨S4x4096x8, .bf16⟩) (.of main_call0_v15 : StableHlo.TRef sig ⟨S4x4096x8, .f32⟩) (extf .f32 · bitsLt_bf16_f32)
  :: StableHlo.TRef.binary (.of main_call0_v12 : StableHlo.TRef sig ⟨S4x4096x8, .f32⟩) (.of main_call0_v15 : StableHlo.TRef sig ⟨S4x4096x8, .f32⟩) (.of main_call0_v16 : StableHlo.TRef sig ⟨S4x4096x8, .f32⟩) subf
  :: StableHlo.TRef.unary (.of main_call0_v16 : StableHlo.TRef sig ⟨S4x4096x8, .f32⟩) (.of main_call0_v17 : StableHlo.TRef sig ⟨S4x4096x8, .bf16⟩) (truncf .bf16 · bitsLt_bf16_f32)
  :: StableHlo.TRef.unary (.of main_call0_v17 : StableHlo.TRef sig ⟨S4x4096x8, .bf16⟩) (.of main_call0_v18 : StableHlo.TRef sig ⟨S4x4096x8, .f32⟩) (extf .f32 · bitsLt_bf16_f32)
  :: StableHlo.TRef.binary (.of main_call0_v16 : StableHlo.TRef sig ⟨S4x4096x8, .f32⟩) (.of main_call0_v18 : StableHlo.TRef sig ⟨S4x4096x8, .f32⟩) (.of main_call0_v19 : StableHlo.TRef sig ⟨S4x4096x8, .f32⟩) subf
  :: StableHlo.TRef.unary (.of main_call0_v19 : StableHlo.TRef sig ⟨S4x4096x8, .f32⟩) (.of main_call0_v20 : StableHlo.TRef sig ⟨S4x4096x8, .bf16⟩) (truncf .bf16 · bitsLt_bf16_f32)
  :: StableHlo.TRef.unary (.of main_call0_v13 : StableHlo.TRef sig ⟨S4x4096x8, .f32⟩) (.of main_call0_v21 : StableHlo.TRef sig ⟨S4x4096x8, .bf16⟩) (truncf .bf16 · bitsLt_bf16_f32)
  :: StableHlo.TRef.unary (.of main_call0_v21 : StableHlo.TRef sig ⟨S4x4096x8, .bf16⟩) (.of main_call0_v22 : StableHlo.TRef sig ⟨S4x4096x8, .f32⟩) (extf .f32 · bitsLt_bf16_f32)
  :: StableHlo.TRef.binary (.of main_call0_v13 : StableHlo.TRef sig ⟨S4x4096x8, .f32⟩) (.of main_call0_v22 : StableHlo.TRef sig ⟨S4x4096x8, .f32⟩) (.of main_call0_v23 : StableHlo.TRef sig ⟨S4x4096x8, .f32⟩) subf
  :: StableHlo.TRef.unary (.of main_call0_v23 : StableHlo.TRef sig ⟨S4x4096x8, .f32⟩) (.of main_call0_v24 : StableHlo.TRef sig ⟨S4x4096x8, .bf16⟩) (truncf .bf16 · bitsLt_bf16_f32)
  :: StableHlo.TRef.unary (.of main_call0_v24 : StableHlo.TRef sig ⟨S4x4096x8, .bf16⟩) (.of main_call0_v25 : StableHlo.TRef sig ⟨S4x4096x8, .f32⟩) (extf .f32 · bitsLt_bf16_f32)
  :: StableHlo.TRef.binary (.of main_call0_v23 : StableHlo.TRef sig ⟨S4x4096x8, .f32⟩) (.of main_call0_v25 : StableHlo.TRef sig ⟨S4x4096x8, .f32⟩) (.of main_call0_v26 : StableHlo.TRef sig ⟨S4x4096x8, .f32⟩) subf
  :: StableHlo.TRef.unary (.of main_call0_v26 : StableHlo.TRef sig ⟨S4x4096x8, .f32⟩) (.of main_call0_v27 : StableHlo.TRef sig ⟨S4x4096x8, .bf16⟩) (truncf .bf16 · bitsLt_bf16_f32)
  :: StableHlo.TRef.nary ![(.of main_call0_v14 : StableHlo.TRef sig ⟨S4x4096x8, .bf16⟩), (.of main_call0_v14 : StableHlo.TRef sig ⟨S4x4096x8, .bf16⟩), (.of main_call0_v14 : StableHlo.TRef sig ⟨S4x4096x8, .bf16⟩), (.of main_call0_v17 : StableHlo.TRef sig ⟨S4x4096x8, .bf16⟩), (.of main_call0_v17 : StableHlo.TRef sig ⟨S4x4096x8, .bf16⟩), (.of main_call0_v20 : StableHlo.TRef sig ⟨S4x4096x8, .bf16⟩)] (.of main_call0_v28 : StableHlo.TRef sig ⟨S4x4096x48, .bf16⟩) (fun u => (concatenate S4x4096x48 2 [⟨S4x4096x8, (u 0 : (⟨S4x4096x8, .bf16⟩ : BufTy).Contents (Elt F))⟩, ⟨S4x4096x8, (u 1 : (⟨S4x4096x8, .bf16⟩ : BufTy).Contents (Elt F))⟩, ⟨S4x4096x8, (u 2 : (⟨S4x4096x8, .bf16⟩ : BufTy).Contents (Elt F))⟩, ⟨S4x4096x8, (u 3 : (⟨S4x4096x8, .bf16⟩ : BufTy).Contents (Elt F))⟩, ⟨S4x4096x8, (u 4 : (⟨S4x4096x8, .bf16⟩ : BufTy).Contents (Elt F))⟩, ⟨S4x4096x8, (u 5 : (⟨S4x4096x8, .bf16⟩ : BufTy).Contents (Elt F))⟩] concatenates_S4x4096x8_S4x4096x8_S4x4096x8_S4x4096x8_S4x4096x8_S4x4096x8_S4x4096x48_d2 : (⟨S4x4096x48, .bf16⟩ : BufTy).Contents (Elt F)))
  :: StableHlo.TRef.nary ![(.of main_call0_v21 : StableHlo.TRef sig ⟨S4x4096x8, .bf16⟩), (.of main_call0_v24 : StableHlo.TRef sig ⟨S4x4096x8, .bf16⟩), (.of main_call0_v27 : StableHlo.TRef sig ⟨S4x4096x8, .bf16⟩), (.of main_call0_v21 : StableHlo.TRef sig ⟨S4x4096x8, .bf16⟩), (.of main_call0_v24 : StableHlo.TRef sig ⟨S4x4096x8, .bf16⟩), (.of main_call0_v21 : StableHlo.TRef sig ⟨S4x4096x8, .bf16⟩)] (.of main_call0_v29 : StableHlo.TRef sig ⟨S4x4096x48, .bf16⟩) (fun u => (concatenate S4x4096x48 2 [⟨S4x4096x8, (u 0 : (⟨S4x4096x8, .bf16⟩ : BufTy).Contents (Elt F))⟩, ⟨S4x4096x8, (u 1 : (⟨S4x4096x8, .bf16⟩ : BufTy).Contents (Elt F))⟩, ⟨S4x4096x8, (u 2 : (⟨S4x4096x8, .bf16⟩ : BufTy).Contents (Elt F))⟩, ⟨S4x4096x8, (u 3 : (⟨S4x4096x8, .bf16⟩ : BufTy).Contents (Elt F))⟩, ⟨S4x4096x8, (u 4 : (⟨S4x4096x8, .bf16⟩ : BufTy).Contents (Elt F))⟩, ⟨S4x4096x8, (u 5 : (⟨S4x4096x8, .bf16⟩ : BufTy).Contents (Elt F))⟩] concatenates_S4x4096x8_S4x4096x8_S4x4096x8_S4x4096x8_S4x4096x8_S4x4096x8_S4x4096x48_d2 : (⟨S4x4096x48, .bf16⟩ : BufTy).Contents (Elt F)))
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nary_bufs_sub .., StableHlo.nary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nary_bufs_sub .., StableHlo.nary_bufs_sub ..⟩
/-- 1 host operation of @kernel (main_call0), in order. -/
abbrev hostOps1 : List (HloOp τ sig (Elt F)) :=
  [ StableHlo.TRef.reshape (.of main_call0_v30 : StableHlo.TRef sig ⟨S1x1, .f32⟩) (.of main_v0 : StableHlo.TRef sig ⟨S_, .f32⟩) (rfl : (.f32 : EltTy) = .f32) shapeCasts_S1x1_S_ ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.reshape_bufs_sub ..
/-- This statement, from @kernel (main_call0), is the chain of its own items: each stretch of the function's operations aligned
    one at a time, every other item taken whole, then `chain_rfl`. -/
theorem main_chain_main_call0 : fn_kernel.body (F := F) (.of main_arg0) (.of main_arg1) main_call0 = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.KernelIdeal.Launch

end
-- ==== Proof.KernelIdealRun.lean ====
/- The run of `KernelIdeal`, for any float values: @main terminates, the two arguments keep their contents, every
   semaphore counter is zero at the end, and the result is the kernel's scalar, read off the two operand arrays the host
   built before the call. -/
module

public import proofs.«01_k».proof.Proof.KernelIdealLaunch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.StableHlo.Run
public import Idealize.ShloMosaic.Lib.Ring
public import Idealize.ShloMosaic.Lib.Tactic

@[expose] public section

set_option maxRecDepth 16384

noncomputable section

namespace Cert.KernelIdeal.Run

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body -/

/-- Batch `0` of a `4 × 4096 × 48` array, as the body loads it; likewise the three below. -/
abbrev rect0 : Rect S4x4096x48 := Rect.unit (s := S4x4096x48) ![0, 0, 0] S1x4096x48.size inb_S4x4096x48_S1x4096x48_0_0_0
/-- Batch `1`. -/
abbrev rect1 : Rect S4x4096x48 := Rect.unit (s := S4x4096x48) ![1, 0, 0] S1x4096x48.size inb_S4x4096x48_S1x4096x48_1_0_0
/-- Batch `2`. -/
abbrev rect2 : Rect S4x4096x48 := Rect.unit (s := S4x4096x48) ![2, 0, 0] S1x4096x48.size inb_S4x4096x48_S1x4096x48_2_0_0
/-- Batch `3`. -/
abbrev rect3 : Rect S4x4096x48 := Rect.unit (s := S4x4096x48) ![3, 0, 0] S1x4096x48.size inb_S4x4096x48_S1x4096x48_3_0_0
/-- The one cell of the result. -/
abbrev cell : Rect S1x1 := Rect.unit (s := S1x1) ![0, 0] S1x1.size inb_S1x1_S1x1_0_0

/-- The scalar the body stores, from its two operand arrays. -/
def total (u v : Vec F S4x4096x48 .bf16) : F .f32 :=
  k0_pay1
    (k0_pay6 (k0_pay2 (View.ld u rect0) (View.ld v rect0)) (k0_pay4 (View.ld u rect1) (View.ld v rect1))
      (k0_pay5 (View.ld u rect1) (View.ld v rect1)) (View.ld u rect2) (View.ld v rect2))
    (k0_pay7 (View.ld u rect3)) (View.ld v rect3)

/-- The result's one cell covers the result. -/
theorem cell_covers (p : Vec F S1x1 .f32) (y : S1x1.Idx) :
    ∃ pc ∈ ([⟨cell, p⟩] : List (View.Piece (Elt F) S1x1 .f32)), y ∈ pc.1.set :=
  View.cover_of_tiled [⟨cell, p⟩] S1x1.size (by rfl) y

/-- A store of one value through the whole result leaves that value in it. -/
theorem canon_cell (p : Vec F S1x1 .f32) : View.canon [⟨cell, p⟩] = p :=
  View.canon_cons_unit_lit _ p [] (by decide)

set_option maxHeartbeats 1000000 in
/-- The body, from two operands at `u` and `v` and a result at anything: it keeps the operands and leaves `total u v`. -/
theorem body_triple (c : Dev nD) (E : Set ℕ)
    (a : Memref sig .tc .vmem S4x4096x48 .bf16) (ha : a.IsWhole) (b : Memref sig .tc .vmem S4x4096x48 .bf16) (hb : b.IsWhole)
    (o : Memref sig .tc .smem S1x1 .f32) (ho : o.IsWhole) (u v : Vec F S4x4096x48 .bf16) (K : PUnit → sProp 𝕄) :
    iprop(owns (c : Thread nD τ) a fullShare u ∗ owns (c : Thread nD τ) b fullShare v ∗ (∃ d, owns (c : Thread nD τ) o fullShare d)
        ∗ (iprop(owns (c : Thread nD τ) a fullShare u ∗ owns (c : Thread nD τ) b fullShare v
            ∗ owns (c : Thread nD τ) o fullShare (fun _ => total u v)) -∗ K ⟨⟩))
      ⊢ wp frame (wpE (defs₀ (F := F)) Variants.none c none) E (cc0__chamfer_kernel a ha b hb o ho) K := by
  simp only [cc0__chamfer_kernel_eq_skeleton]; unfold cc0__chamfer_kernel_skel
  simp only [k0_part1_eq_skeleton]; unfold k0_part1_skel
  simp only [k0_part2_eq_skeleton]; unfold k0_part2_skel
  unfold owns
  iintro ⟨⟨%f, %hf, Ha⟩, ⟨%g, %hg, Hb⟩, ⟨%d, %e, -, Ho⟩, Hk⟩
  subst hf hg
  sl_exec
  sl_step
  iapply Hk
  isplitl [Ha]
  · iexists f; isplitr; · ipureintro; rfl
    iexact Ha
  isplitl [Hb]
  · iexists g; isplitr; · ipureintro; rfl
    iexact Hb
  iexists _; isplitr
  swap; · iexact Ho
  ipureintro
  exact (View.read_writes_eq_canon _ _ _ (cell_covers _)).trans (canon_cell _)

/-! ## The proof data of the call -/

variable (m : (ℓ : Loc nD τ sig) → Buf (Elt F) ℓ) (ρ : Dev nD → PrngReg)

/-- The buffers of device `c` at the call: the launch contents after the host operations before it. -/
abbrev entryVal (c : Dev nD) : Valuation τ sig (Elt F) := StableHlo.after (List.flatten [hostOps0]) fun b => m (c, b)

/-- The contents of window `w`'s array at the call, read through the window's block at point `t`. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Proc.devRef .tc (Pipeline.arrRef spec0 w)))

/-- The proof data: the operand blocks are kept, and the result's block is left at `total` of the two operand blocks. -/
def dats (_ : Fin 1) (c : Dev nD) : Dat τ (Elt F) Unit ℕ (UR sig nD τ) ℕ cfg0 c where
  A w := entryVal m c (Proc.devRef .tc (Pipeline.arrRef spec0 w))
  after w t := match w with
    | ⟨0, _⟩ => blockAt m c 0 t
    | ⟨1, _⟩ => blockAt m c 1 t
    | ⟨2, _⟩ => fun _ => total (blockAt m c 0 t) (blockAt m c 1 t)
  Φ _ := Pipeline.ΦA spec0 c
  q _ := fullShare
  owed _ := 0

/-- What the first operand's staging block is left at. -/
theorem after_0 (c : Dev nD) (t : Fin cfg0.N) : (dats m 0 c).after 0 t = blockAt m c 0 t := by dsimp only [dats]
/-- What the second operand's staging block is left at. -/
theorem after_1 (c : Dev nD) (t : Fin cfg0.N) : (dats m 0 c).after 1 t = blockAt m c 1 t := by dsimp only [dats]
/-- What the result's staging block is left at. -/
theorem after_2 (c : Dev nD) (t : Fin cfg0.N) :
    (dats m 0 c).after 2 t = fun _ => total (blockAt m c 0 t) (blockAt m c 1 t) := by dsimp only [dats]

/-- The body finds the first operand's block at the call's contents, -/
theorem before_0 (c : Dev nD) (t : Fin cfg0.N) (d) : (dats m 0 c).before 0 t d = blockAt m c 0 t :=
  ((dats m 0 c).before_in_eq_fetched 0 rfl (fun _ => rfl) (fun _ _ _ => rfl) (fun t => by rw [after_0]; rfl) t d).trans rfl
/-- and the second's. -/
theorem before_1 (c : Dev nD) (t : Fin cfg0.N) (d) : (dats m 0 c).before 1 t d = blockAt m c 1 t :=
  ((dats m 0 c).before_in_eq_fetched 1 rfl (fun _ => rfl) (fun _ _ _ => rfl) (fun t => by rw [after_1]; rfl) t d).trans rfl

/-- What the body has at the point: the invariant, nothing owed, and the three staging buffers at their contents before it. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it leaves: the same, with the staging buffers at their contents after it. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the point takes `pre` to `post`. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).Φ t.succ = (dats m 0 c).Φ t.castSucc from rfl,
    show (dats m 0 c).owesAt () t.succ = (dats m 0 c).owesAt () t.castSucc from rfl, after_0, after_1, after_2]
  iintro ⟨HΦ, HO, ⟨%d0, H0⟩, ⟨%d1, H1⟩, ⟨%d2, H2⟩⟩
  iapply (body_triple c Set.univ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- The body meets the proof data at every point. -/
theorem body_obligation (c : Dev nD) : BodyObligation (dats (F := F) m 0 c) (defs₀ (F := F)) Variants.none () Set.univ := fun t => by
  rw [bigSep_W0, bigSep_W0]
  exact body_at m c t

/-! ## The run -/

/-- No host operation before the call allocates. -/
theorem hostOps0_fresh : (hostOps0 : List (HloOp τ sig (Elt F))).Forall fun op => op.fresh = ∅ := by
  simp only [List.Forall]; repeat' constructor

/-- @main up to the call, and what follows the call. -/
theorem main_around : Pipeline.HMainK (Ix := Unit) (Name := ℕ) (U := UR sig nD τ) (Lvl := ℕ) cfgs 0 defs₀ Variants.none m
    (main (F := F)) (fun c b => entryVal m c (Proc.devRef .tc b)) (fun _ => Pipeline.chain ([hostOps1].map StableHlo.seq)) :=
  Pipeline.hmain_around cfgs 0 defs₀ Variants.none m main [hostOps0] [hostOps1] hostOps0_sub hostOps0_fresh main_chain

/-- The host operation after the call writes no array of the call. -/
theorem reshape_keeps (w : Fin 3) : ∀ op ∈ (hostOps1 : List (HloOp τ sig (Elt F))),
    Proc.devRef .tc (Pipeline.arrRef spec0 w) ∉ op.writes := by
  intro op h
  obtain rfl := List.mem_singleton.mp h
  show _ ∉ ({Proc.devRef .tc main_v0} : Finset (DevRef τ sig))
  rw [Finset.mem_singleton]
  exact fun e => (by decide : ∀ w : Fin 3, Pipeline.arrRef spec0 w ≠ main_v0) w (Proc.devRef_injective _ e)

set_option backward.isDefEq.respectTransparency.types false in
/-- @main terminates with every unscoped buffer at what the region and the host operation after it leave, and every
    semaphore counter at zero. -/
theorem run_main : θ_run defs (onTc (τ := τ) (main (F := F))) (s₀ m ρ) fun r =>
    Pipeline.FramePost cfgs (dats m) 0 (Pipeline.afterTail₀ cfgs (dats m) 0 (entryVal m) [hostOps1]) r ∧ r.2.sem = fun _ => 0 :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1])
    (hsub := fun ops ho op h => by
      obtain rfl := List.mem_singleton.mp ho
      obtain rfl := List.mem_singleton.mp h
      exact Pipeline.sub_tailRefs _ _ _ hostOps1_sub fun k => k.elim0)
    (hfresh := fun ops ho op h => by
      obtain rfl := List.mem_singleton.mp ho
      obtain rfl := List.mem_singleton.mp h
      rfl)
    (hkeep := fun ops ho op h w => by
      obtain rfl := List.mem_singleton.mp ho
      exact reshape_keeps w op h)
    (hmain := main_around m) (hA := fun _ _ => rfl) (hΦ := fun _ _ => rfl)
    (Q' := fun r => Pipeline.FramePost cfgs (dats m) 0 (Pipeline.afterTail₀ cfgs (dats m) 0 (entryVal m) [hostOps1]) r ∧ r.2.sem = fun _ => 0)
    (hQ' := fun _ h => h)

/-! ## The run, read -/

/-- The first operand array of the call, -/
abbrev opX (c : Dev nD) : Vec F S4x4096x48 .bf16 := entryVal m c (Proc.devRef .tc main_call0_v28)
/-- and the second. -/
abbrev opY (c : Dev nD) : Vec F S4x4096x48 .bf16 := entryVal m c (Proc.devRef .tc main_call0_v29)

/-- The first operand's block is the whole array, -/
theorem blockAt_0 (c : Dev nD) (t : Fin cfg0.N) : blockAt m c 0 t = opX m c := by
  funext i
  show opX m c ((win0_0.blk t).view.emb i) = opX m c i
  refine congrArg (opX m c) (funext fun a => Fin.ext ?_)
  exact Pipeline.Window.rect_emb_val_of_index_zero win0_0 t a rfl i
/-- and so is the second's. -/
theorem blockAt_1 (c : Dev nD) (t : Fin cfg0.N) : blockAt m c 1 t = opY m c := by
  funext i
  show opY m c ((win0_1.blk t).view.emb i) = opY m c i
  refine congrArg (opY m c) (funext fun a => Fin.ext ?_)
  exact Pipeline.Window.rect_emb_val_of_index_zero win0_1 t a rfl i

/-- After the call the result array holds `total` of the two operand arrays in its one cell. -/
theorem arr_out (c : Dev nD) : (dats m 0 c).arrAt 2 cfg0.N = fun _ => total (opX m c) (opY m c) := by
  funext i
  refine ((dats m 0 c).arrAt_emb_eq_after_last 2 t0_0 (by decide +kernel) i).trans ?_
  rw [after_2, blockAt_0, blockAt_1]
  rfl

/-- The result after the run: the scalar `total` of the operand arrays. -/
theorem tail_out (c : Dev nD) :
    Pipeline.afterTail₀ cfgs (dats m) 0 (entryVal m) [hostOps1] c main_v0 = fun _ => total (opX m c) (opY m c) := by
  unfold Pipeline.afterTail₀
  show StableHlo.after hostOps1 _ _ = _
  after_results
  rw [Pipeline.withArrays_arr spec0 winFacts0.arr_inj c _ _ 2]
  erw [arr_out]
  rfl

/-- A buffer the program does not write keeps its launch contents: the arguments do. -/
theorem tail_arg0 (c : Dev nD) :
    Pipeline.afterTail₀ cfgs (dats m) 0 (entryVal m) [hostOps1] c main_arg0 = m ((c.tc : Thread nD τ).loc main_arg0) := by
  unfold Pipeline.afterTail₀
  show StableHlo.after hostOps1 _ _ = _
  after_results
  rw [Pipeline.withArrays_of_ne _ _ _ _ main_arg0 (by decide)]
  show StableHlo.after hostOps0 _ _ = _
  after_results

/-- The same for the second argument. -/
theorem tail_arg1 (c : Dev nD) :
    Pipeline.afterTail₀ cfgs (dats m) 0 (entryVal m) [hostOps1] c main_arg1 = m ((c.tc : Thread nD τ).loc main_arg1) := by
  unfold Pipeline.afterTail₀
  show StableHlo.after hostOps1 _ _ = _
  after_results
  rw [Pipeline.withArrays_of_ne _ _ _ _ main_arg1 (by decide)]
  show StableHlo.after hostOps0 _ _ = _
  after_results

/-- @main terminates with the result at the kernel's scalar over the two operand arrays, the arguments unchanged and
    every semaphore counter at zero. -/
theorem run : θ_run defs (onTc (τ := τ) (main (F := F))) ⟨m, fun _ => 0, ρ⟩ fun r => (∀ c : Dev nD,
      r.2.mem ((c.tc : Thread nD τ).loc main_v0) = (fun _ => total (opX m c) (opY m c))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c =>
      ⟨((h.1 c).2 main_v0 (by decide)).trans (tail_out m c), ((h.1 c).2 main_arg0 (by decide)).trans (tail_arg0 m c),
        ((h.1 c).2 main_arg1 (by decide)).trans (tail_arg1 m c)⟩, h.2⟩) (run_main m ρ)

end Cert.KernelIdeal.Run

end
-- ==== Proof.KernelIdealOperands.lean ====
module
public import proofs.«01_k».proof.Proof.KernelIdealRun
@[expose] public section
/-! The two operands the host code builds for the kernel, as functions of the arguments: each argument's eight columns, split in
    three parts and laid out over forty-eight columns. The host code is cut at its joinings of arrays and read piece by piece. -/
namespace Cert.KernelIdeal.Run
open Cert.KernelIdeal Cert.KernelIdeal.Gen Cert.KernelIdeal.Launch
open Idealize.ShloMosaic Idealize.ShloMosaic.TcCoe Idealize.SL.Sem
variable {F : FTy → Type} [FloatOps F]

/-- The eight columns of the left operand: `-2·x`, the squared norm, ones, zeros. -/
def leftCols (x : Vec F S4x4096x3 .f32) : Vec F S4x4096x8 .f32 :=
  concatenate S4x4096x8 2
    [⟨S4x4096x3, mulf (broadcastInDim S4x4096x3 ![] bcast_S_S4x4096x3 (constant S_ .f32 0xC0000000#32)) x⟩,
     ⟨S4x4096x1, broadcastInDim S4x4096x1 ![0, 1] bcast_S4x4096_S4x4096x1_0_1
        (Host.reduceAdd (mulf x x) (constant S_ .f32 0x00000000#32) reducesTo_S4x4096x3_S4x4096_d2 h_S_)⟩,
     ⟨S4x4096x1, broadcastInDim S4x4096x1 ![] bcast_S_S4x4096x1 (constant S_ .f32 0x3F800000#32)⟩,
     ⟨S4x4096x3, broadcastInDim S4x4096x3 ![] bcast_S_S4x4096x3 (constant S_ .f32 0x00000000#32)⟩]
    concatenates_S4x4096x3_S4x4096x1_S4x4096x1_S4x4096x3_S4x4096x8_d2

/-- The eight columns of the right operand: `y`, ones, the squared norm, zeros. -/
def rightCols (y : Vec F S4x4096x3 .f32) : Vec F S4x4096x8 .f32 :=
  concatenate S4x4096x8 2
    [⟨S4x4096x3, y⟩,
     ⟨S4x4096x1, broadcastInDim S4x4096x1 ![] bcast_S_S4x4096x1 (constant S_ .f32 0x3F800000#32)⟩,
     ⟨S4x4096x1, broadcastInDim S4x4096x1 ![0, 1] bcast_S4x4096_S4x4096x1_0_1
        (Host.reduceAdd (mulf y y) (constant S_ .f32 0x00000000#32) reducesTo_S4x4096x3_S4x4096_d2 h_S_)⟩,
     ⟨S4x4096x3, broadcastInDim S4x4096x3 ![] bcast_S_S4x4096x3 (constant S_ .f32 0x00000000#32)⟩]
    concatenates_S4x4096x3_S4x4096x1_S4x4096x1_S4x4096x3_S4x4096x8_d2

/-- The leading part of an array in the narrow format. -/
abbrev hi (a : Vec F S4x4096x8 .f32) : Vec F S4x4096x8 .bf16 := truncf .bf16 a bitsLt_bf16_f32
/-- What an array leaves over its leading part. -/
abbrev rest (a : Vec F S4x4096x8 .f32) : Vec F S4x4096x8 .f32 := subf a (extf .f32 (hi a) bitsLt_bf16_f32)

/-- Six arrays of eight columns next to each other. -/
def six (a b c d e f : Vec F S4x4096x8 .bf16) : Vec F S4x4096x48 .bf16 :=
  concatenate S4x4096x48 2 [⟨S4x4096x8, a⟩, ⟨S4x4096x8, b⟩, ⟨S4x4096x8, c⟩, ⟨S4x4096x8, d⟩, ⟨S4x4096x8, e⟩, ⟨S4x4096x8, f⟩]
    concatenates_S4x4096x8_S4x4096x8_S4x4096x8_S4x4096x8_S4x4096x8_S4x4096x8_S4x4096x48_d2

/-- Running two lists of operations one after the other runs their concatenation. -/
theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

/-- The host operations up to the first joining. -/
abbrev seg0 : List (HloOp τ sig (Elt F)) := hostOps0.take 19
/-- The joining of the left operand's columns. -/
abbrev seg1 : List (HloOp τ sig (Elt F)) := (hostOps0.drop 19).take 1
/-- The joining of the right operand's columns. -/
abbrev seg2 : List (HloOp τ sig (Elt F)) := (hostOps0.drop 20).take 1
/-- The splitting of both operands into three parts. -/
abbrev seg3 : List (HloOp τ sig (Elt F)) := (hostOps0.drop 21).take 14
/-- The joinings of the six parts of either operand. -/
abbrev seg4 : List (HloOp τ sig (Elt F)) := hostOps0.drop 35

/-- The host operations are the five pieces one after the other. -/
theorem hostOps0_split : (hostOps0 : List (HloOp τ sig (Elt F))) = seg0 ++ (seg1 ++ (seg2 ++ (seg3 ++ seg4))) := rfl

variable (V : Valuation τ sig (Elt F))

set_option maxHeartbeats 2000000
/-- The left operand, from the parts of the left columns. -/
theorem seg4_x : StableHlo.after seg4 V (Proc.devRef .tc main_call0_v28)
    = six (V (Proc.devRef .tc main_call0_v14)) (V (Proc.devRef .tc main_call0_v14)) (V (Proc.devRef .tc main_call0_v14))
        (V (Proc.devRef .tc main_call0_v17)) (V (Proc.devRef .tc main_call0_v17)) (V (Proc.devRef .tc main_call0_v20)) := by
  simp only [seg4, hostOps0, List.drop, StableHlo.after_cons, StableHlo.after_nil]
  rw [StableHlo.nary_result_ne, StableHlo.nary_result]
  · rfl
  · decide
/-- The right operand, from the parts of the right columns. -/
theorem seg4_y : StableHlo.after seg4 V (Proc.devRef .tc main_call0_v29)
    = six (V (Proc.devRef .tc main_call0_v21)) (V (Proc.devRef .tc main_call0_v24)) (V (Proc.devRef .tc main_call0_v27))
        (V (Proc.devRef .tc main_call0_v21)) (V (Proc.devRef .tc main_call0_v24)) (V (Proc.devRef .tc main_call0_v21)) := by
  simp only [seg4, hostOps0, List.drop, StableHlo.after_cons, StableHlo.after_nil]
  rw [StableHlo.nary_result]
  rfl

/-- The three parts of the left columns and the three of the right ones. -/
theorem seg3_read :
    StableHlo.after seg3 V (Proc.devRef .tc main_call0_v14) = hi (V (Proc.devRef .tc main_call0_v12))
    ∧ StableHlo.after seg3 V (Proc.devRef .tc main_call0_v17) = hi (rest (V (Proc.devRef .tc main_call0_v12)))
    ∧ StableHlo.after seg3 V (Proc.devRef .tc main_call0_v20) = hi (rest (rest (V (Proc.devRef .tc main_call0_v12))))
    ∧ StableHlo.after seg3 V (Proc.devRef .tc main_call0_v21) = hi (V (Proc.devRef .tc main_call0_v13))
    ∧ StableHlo.after seg3 V (Proc.devRef .tc main_call0_v24) = hi (rest (V (Proc.devRef .tc main_call0_v13)))
    ∧ StableHlo.after seg3 V (Proc.devRef .tc main_call0_v27) = hi (rest (rest (V (Proc.devRef .tc main_call0_v13)))) := by
  simp only [seg3, hostOps0, List.drop, List.take]
  refine ⟨?_, ?_, ?_, ?_, ?_, ?_⟩ <;> (after_results; try rfl)

/-- The first joining reads its four pieces and writes only its own buffer. -/
theorem seg1_x : StableHlo.after seg1 V (Proc.devRef .tc main_call0_v12)
    = concatenate S4x4096x8 2
        [⟨S4x4096x3, (V (Proc.devRef .tc main_call0_v11) : Vec F S4x4096x3 .f32)⟩, ⟨S4x4096x1, (V (Proc.devRef .tc main_call0_v2) : Vec F S4x4096x1 .f32)⟩,
         ⟨S4x4096x1, (V (Proc.devRef .tc main_call0_v6) : Vec F S4x4096x1 .f32)⟩, ⟨S4x4096x3, (V (Proc.devRef .tc main_call0_v8) : Vec F S4x4096x3 .f32)⟩]
        concatenates_S4x4096x3_S4x4096x1_S4x4096x1_S4x4096x3_S4x4096x8_d2 := by
  simp only [seg1, hostOps0, List.drop, List.take, StableHlo.after_cons, StableHlo.after_nil]
  rw [StableHlo.nary_result]
  rfl

/-- The second joining reads its four pieces and writes only its own buffer. -/
theorem seg2_y : StableHlo.after seg2 V (Proc.devRef .tc main_call0_v13)
    = concatenate S4x4096x8 2
        [⟨S4x4096x3, (V (Proc.devRef .tc main_arg1) : Vec F S4x4096x3 .f32)⟩, ⟨S4x4096x1, (V (Proc.devRef .tc main_call0_v7) : Vec F S4x4096x1 .f32)⟩,
         ⟨S4x4096x1, (V (Proc.devRef .tc main_call0_v5) : Vec F S4x4096x1 .f32)⟩, ⟨S4x4096x3, (V (Proc.devRef .tc main_call0_v9) : Vec F S4x4096x3 .f32)⟩]
        concatenates_S4x4096x3_S4x4096x1_S4x4096x1_S4x4096x3_S4x4096x8_d2 := by
  simp only [seg2, hostOps0, List.drop, List.take, StableHlo.after_cons, StableHlo.after_nil]
  rw [StableHlo.nary_result]
  rfl

/-- The left columns, after the segments up to the one that joins the right ones. -/
theorem cols_x : StableHlo.after seg2 (StableHlo.after seg1 (StableHlo.after seg0 V)) (Proc.devRef .tc main_call0_v12)
    = leftCols (V (Proc.devRef .tc main_arg0)) := by
  have h : StableHlo.after seg2 (StableHlo.after seg1 (StableHlo.after seg0 V)) (Proc.devRef .tc main_call0_v12)
      = StableHlo.after seg1 (StableHlo.after seg0 V) (Proc.devRef .tc main_call0_v12) := by
    generalize StableHlo.after seg1 (StableHlo.after seg0 V) = W
    simp only [seg2, hostOps0, List.drop, List.take, StableHlo.after_cons, StableHlo.after_nil]
    rw [StableHlo.nary_result_ne]
    decide
  rw [h, seg1_x]
  simp only [seg0, hostOps0, List.take]
  after_results
  rfl

/-- What the first joining leaves alone. -/
theorem seg1_keep {r : Ref sig .tc} (h : r ≠ main_call0_v12) :
    StableHlo.after seg1 V (Proc.devRef .tc r) = V (Proc.devRef .tc r) := by
  simp only [seg1, hostOps0, List.drop, List.take, StableHlo.after_cons, StableHlo.after_nil]
  rw [StableHlo.nary_result_ne]
  exact h

/-- The right columns, after the same segments. -/
theorem cols_y : StableHlo.after seg2 (StableHlo.after seg1 (StableHlo.after seg0 V)) (Proc.devRef .tc main_call0_v13)
    = rightCols (V (Proc.devRef .tc main_arg1)) := by
  rw [seg2_y]
  rw [seg1_keep (r := main_arg1) _ (by decide), seg1_keep (r := main_call0_v7) _ (by decide),
    seg1_keep (r := main_call0_v5) _ (by decide), seg1_keep (r := main_call0_v9) _ (by decide)]
  simp only [seg0, hostOps0, List.take]
  after_results
  rfl

/-- An array of eight columns as the kernel's left operand. -/
def splitLeft (a : Vec F S4x4096x8 .f32) : Vec F S4x4096x48 .bf16 :=
  six (hi a) (hi a) (hi a) (hi (rest a)) (hi (rest a)) (hi (rest (rest a)))
/-- An array of eight columns as the kernel's right operand. -/
def splitRight (a : Vec F S4x4096x8 .f32) : Vec F S4x4096x48 .bf16 :=
  six (hi a) (hi (rest a)) (hi (rest (rest a))) (hi a) (hi (rest a)) (hi a)

variable (m : (ℓ : Loc nD τ sig) → Buf (Elt F) ℓ)

/-- The kernel's left operand is the split of the columns made from the first argument. -/
theorem opX_eq (c : Dev nD) : opX m c = splitLeft (leftCols (m ((c.tc : Thread nD τ).loc main_arg0))) := by
  show StableHlo.after hostOps0 (fun b => m (c, b)) _ = _
  rw [hostOps0_split, after_two, after_two, after_two, after_two, seg4_x, (seg3_read _).1, (seg3_read _).2.1, (seg3_read _).2.2.1, cols_x]
  rfl
/-- The kernel's right operand is the split of the columns made from the second argument. -/
theorem opY_eq (c : Dev nD) : opY m c = splitRight (rightCols (m ((c.tc : Thread nD τ).loc main_arg1))) := by
  show StableHlo.after hostOps0 (fun b => m (c, b)) _ = _
  rw [hostOps0_split, after_two, after_two, after_two, after_two, seg4_y, (seg3_read _).2.2.2.1, (seg3_read _).2.2.2.2.1,
    (seg3_read _).2.2.2.2.2, cols_y]
  rfl
end Cert.KernelIdeal.Run
-- ==== Proof.KernelIdealTotal.lean ====
module
public import proofs.«01_k».proof.Proof.KernelIdealRun
public import Idealize.ShloMosaic.Lib.MatmulPlain
public import Idealize.ShloMosaic.Lib.ValueLayout
@[expose] public section
/-! The scalar that the kernel's body computes, read at the ideal values: sums of clipped minima of a table of dot products. -/
namespace Cert.KernelIdeal.Run
open Cert.KernelIdeal Cert.KernelIdeal.Gen Cert.KernelIdeal.Launch
open Idealize.ShloMosaic hiding ix1 ix2 ix3
open Idealize.ShloMosaic.ValueIdx

/-- The literal zero. -/
theorem word_zero : Ideal.ofBits .f32 0x00000000#32 = (0 : EReal) := by simp [Ideal.ofBits, Ideal.ieee]
/-- The literal plus infinity. -/
theorem word_top : Ideal.ofBits .f32 0x7F800000#32 = (⊤ : EReal) := by simp [Ideal.ofBits, Ideal.ieee]

/-- A left fold of the minimum from plus infinity is the infimum. -/
theorem fold_min_top {ι : Type} (s : Finset ι) (f : ι → EReal) : s.fold min (Ideal.ofBits .f32 0x7F800000#32) f = s.inf f := by
  rw [word_top]; rfl

/-- Row minima of a 4096 × 4096 table. -/
theorem rowMin_apply (d : FVec Ideal S4096x4096 .f32) (i : Fin 4096) :
    multiReduction .minimumf [1] S4096 d 0x7F800000#32 reduces_S4096x4096_S4096 (.inl rfl) rfl (ix1 i)
      = Finset.univ.inf fun j : Fin 4096 => d (ix2 i j) := by
  refine (multiReduction_minimumf_eq_fold _ _ _ _ _ _).trans ?_
  refine (Shape.Reduces.fold_filter_drop_single _ _ _ _ _).trans ?_
  refine (fold_min_top _ _).trans ?_
  refine Finset.inf_congr rfl fun j _ => congrArg d ?_
  funext a; apply Fin.ext
  match a with
  | ⟨0, _⟩ => rfl
  | ⟨1, _⟩ => rfl

/-- Column minima of a 4096 × 4096 table. -/
theorem colMin_apply (d : FVec Ideal S4096x4096 .f32) (j : Fin 4096) :
    multiReduction .minimumf [0] S4096 d 0x7F800000#32 reduces_S4096x4096_S4096_2 (.inl rfl) rfl (ix1 j)
      = Finset.univ.inf fun i : Fin 4096 => d (ix2 i j) := by
  refine (multiReduction_minimumf_eq_fold _ _ _ _ _ _).trans ?_
  refine (Shape.Reduces.fold_filter_drop_single _ _ _ _ _).trans ?_
  refine (fold_min_top _ _).trans ?_
  refine Finset.inf_congr rfl fun i _ => congrArg d ?_
  funext a; apply Fin.ext
  match a with
  | ⟨0, _⟩ => rfl
  | ⟨1, _⟩ => rfl

section AnyInstance
variable {F : FTy → Type} [FloatOps F]
/-- The table of dot products of two blocks' rows. -/
def table (a b : Vec F S1x4096x48 .bf16) : FVec F S4096x4096 .f32 :=
  matmul dot_S4096x48_S4096x48_S4096x4096_1_1_0_0_n_n none (shapeCast S4096x48 a shapeCasts_S1x4096x48_S4096x48)
    (shapeCast S4096x48 b shapeCasts_S1x4096x48_S4096x48) (constant S4096x4096 .f32 0x00000000#32)
/-- The scaled sum of a row of minima, each clipped at zero. -/
def part (v : FVec F S4096 .f32) : F .f32 :=
  Scalar.mulf (extractAt ![0, 0] (shapeCast S1x1 (multiReduction .add [1] S1
    (shapeCast S1x4096 (maximumf v (broadcast S4096 (Scalar.ofBits .f32 0x00000000#32))) shapeCasts_S4096_S1x4096)
    0x00000000#32 reduces_S1x4096_S1 (.inl rfl) rfl) shapeCasts_S1_S1x1) inpos_S1x1_p0_0) (Scalar.ofBits .f32 0x38800000#32)
/-- What one batch adds for the rows. -/
def rowPart (a b : Vec F S1x4096x48 .bf16) : F .f32 :=
  part (multiReduction .minimumf [1] S4096 (table a b) 0x7F800000#32 reduces_S4096x4096_S4096 (.inl rfl) rfl)
/-- What one batch adds for the columns. -/
def colPart (a b : Vec F S1x4096x48 .bf16) : F .f32 :=
  part (multiReduction .minimumf [0] S4096 (table a b) 0x7F800000#32 reduces_S4096x4096_S4096_2 (.inl rfl) rfl)
/-- The body's scalar is the eight parts added one after the other to zero. -/
theorem total_parts (u v : Vec F S4x4096x48 .bf16) :
    total u v = Scalar.addf (Scalar.addf (Scalar.addf (Scalar.addf (Scalar.addf (Scalar.addf (Scalar.addf (Scalar.addf
      (Scalar.ofBits .f32 0x00000000#32)
      (rowPart (View.ld u rect0) (View.ld v rect0))) (colPart (View.ld u rect0) (View.ld v rect0)))
      (rowPart (View.ld u rect1) (View.ld v rect1))) (colPart (View.ld u rect1) (View.ld v rect1)))
      (rowPart (View.ld u rect2) (View.ld v rect2))) (colPart (View.ld u rect2) (View.ld v rect2)))
      (rowPart (View.ld u rect3) (View.ld v rect3))) (colPart (View.ld u rect3) (View.ld v rect3)) := rfl
end AnyInstance

/-- One entry of the table. -/
theorem table_apply (a b : Vec Ideal S1x4096x48 .bf16) (i j : Fin 4096) :
    table a b (ix2 i j) = ∑ k : Fin 48, (a (ix3 0 i k) : EReal) * b (ix3 0 j k) := by
  unfold table
  refine (Ideal.matmul_transposedRhs_apply none _ _ _ i j).trans ?_
  have h0 : (constant (F := Ideal) S4096x4096 .f32 0x00000000#32) (ix2 i j) = (0 : EReal) := word_zero
  rw [h0, zero_add]
  refine Finset.sum_congr rfl fun k _ => ?_
  exact congrArg₂ (· * ·) (shapeCast_1ab_ab_apply a _ i k) (shapeCast_1ab_ab_apply b _ j k)

/-- The scaled sum of a row of minima, each clipped at zero. -/
theorem part_apply (v : FVec Ideal S4096 .f32) :
    part v = (∑ i : Fin 4096, max (v (ix1 i) : EReal) 0) * ((1 / 16384 : ℝ) : EReal) := by
  have hc : Ideal.ofBits .f32 0x38800000#32 = ((1 / 16384 : ℝ) : EReal) := by
    simp [Ideal.ofBits, Ideal.ieee]
    rw [← EReal.coe_mul]; norm_num
  unfold part
  refine congrArg₂ (· * ·) ?_ hc
  unfold extractAt
  refine (shapeCast_apply _ _ _ (ix1 (0 : Fin 1)) rfl).trans ?_
  refine (Ideal.multiReduction_add_single _ _ _ _ _ _).trans ?_
  refine Finset.sum_congr rfl fun i _ => ?_
  have hi : reduces_S1x4096_S1.lift (ix1 (0 : Fin 1)) i = ix2 (0 : Fin 1) i := by
    funext a; apply Fin.ext
    match a with
    | ⟨0, _⟩ => rfl
    | ⟨1, _⟩ => rfl
  rw [hi]
  refine (shapeCast_a_1a_apply _ _ 0 i).trans ?_
  exact congrArg (max _) word_zero

/-- An entry of batch 0 of an operand, as loaded. -/
theorem ld_rect0 (u : Vec Ideal S4x4096x48 .bf16) (i : Fin 4096) (k : Fin 48) :
    View.ld u rect0 (ix3 0 i k) = u (ix3 0 i k) :=
  View.ld_unit_apply_of u _ _ _ _ _ fun a => match a with
    | ⟨0, _⟩ => rfl
    | ⟨1, _⟩ => (Nat.zero_add _).symm
    | ⟨2, _⟩ => (Nat.zero_add _).symm

/-- An entry of batch 1 of an operand, as loaded. -/
theorem ld_rect1 (u : Vec Ideal S4x4096x48 .bf16) (i : Fin 4096) (k : Fin 48) :
    View.ld u rect1 (ix3 0 i k) = u (ix3 1 i k) :=
  View.ld_unit_apply_of u _ _ _ _ _ fun a => match a with
    | ⟨0, _⟩ => rfl
    | ⟨1, _⟩ => (Nat.zero_add _).symm
    | ⟨2, _⟩ => (Nat.zero_add _).symm

/-- An entry of batch 2 of an operand, as loaded. -/
theorem ld_rect2 (u : Vec Ideal S4x4096x48 .bf16) (i : Fin 4096) (k : Fin 48) :
    View.ld u rect2 (ix3 0 i k) = u (ix3 2 i k) :=
  View.ld_unit_apply_of u _ _ _ _ _ fun a => match a with
    | ⟨0, _⟩ => rfl
    | ⟨1, _⟩ => (Nat.zero_add _).symm
    | ⟨2, _⟩ => (Nat.zero_add _).symm

/-- An entry of batch 3 of an operand, as loaded. -/
theorem ld_rect3 (u : Vec Ideal S4x4096x48 .bf16) (i : Fin 4096) (k : Fin 48) :
    View.ld u rect3 (ix3 0 i k) = u (ix3 3 i k) :=
  View.ld_unit_apply_of u _ _ _ _ _ fun a => match a with
    | ⟨0, _⟩ => rfl
    | ⟨1, _⟩ => (Nat.zero_add _).symm
    | ⟨2, _⟩ => (Nat.zero_add _).symm

/-- The dot product of row `i` of one operand and row `j` of the other in batch `b`. -/
noncomputable def dot (u v : Vec Ideal S4x4096x48 .bf16) (b : Fin 4) (i j : Fin 4096) : EReal :=
  ∑ k : Fin 48, (u (ix3 b i k) : EReal) * v (ix3 b j k)

/-- The rows' share of a batch: the clipped row minima of a table, summed and scaled. -/
noncomputable def rowShare (d : Fin 4096 → Fin 4096 → EReal) : EReal :=
  (∑ i : Fin 4096, max (Finset.univ.inf fun j : Fin 4096 => d i j) 0) * ((1 / 16384 : ℝ) : EReal)

/-- What one batch adds, from its blocks' entries. -/
theorem parts_apply (u v : Vec Ideal S4x4096x48 .bf16) (c : Fin 4) (a b : Vec Ideal S1x4096x48 .bf16)
    (ha : ∀ i k, a (ix3 0 i k) = u (ix3 c i k)) (hb : ∀ j k, b (ix3 0 j k) = v (ix3 c j k)) :
    rowPart a b = rowShare (dot u v c) ∧ colPart a b = rowShare (fun j i => dot u v c i j) := by
  have ht : ∀ i j, table a b (ix2 i j) = dot u v c i j := fun i j =>
    (table_apply a b i j).trans (Finset.sum_congr rfl fun k _ => congrArg₂ (· * ·) (ha i k) (hb j k))
  constructor
  · refine (part_apply _).trans (congrArg (fun z : EReal => z * ((1 / 16384 : ℝ) : EReal)) ?_)
    refine Finset.sum_congr rfl fun i _ => congrArg (fun z : EReal => max z 0) ?_
    exact (rowMin_apply _ i).trans (Finset.inf_congr rfl fun j _ => ht i j)
  · refine (part_apply _).trans (congrArg (fun z : EReal => z * ((1 / 16384 : ℝ) : EReal)) ?_)
    refine Finset.sum_congr rfl fun j _ => congrArg (fun z : EReal => max z 0) ?_
    exact (colMin_apply _ j).trans (Finset.inf_congr rfl fun i _ => ht i j)

/-- The body's scalar, from the two operands: over the four batches, the rows' and the columns' shares of the table of dot products. -/
theorem total_eq (u v : Vec Ideal S4x4096x48 .bf16) :
    total u v = 0 + rowShare (dot u v 0) + rowShare (fun j i => dot u v 0 i j)
      + rowShare (dot u v 1) + rowShare (fun j i => dot u v 1 i j)
      + rowShare (dot u v 2) + rowShare (fun j i => dot u v 2 i j)
      + rowShare (dot u v 3) + rowShare (fun j i => dot u v 3 i j) := by
  have h0 := parts_apply u v 0 _ _ (ld_rect0 u) (ld_rect0 v)
  have h1 := parts_apply u v 1 _ _ (ld_rect1 u) (ld_rect1 v)
  have h2 := parts_apply u v 2 _ _ (ld_rect2 u) (ld_rect2 v)
  have h3 := parts_apply u v 3 _ _ (ld_rect3 u) (ld_rect3 v)
  rw [total_parts, h0.1, h0.2, h1.1, h1.2, h2.1, h2.2, h3.1, h3.2, ← word_zero]
  rfl
end Cert.KernelIdeal.Run
-- ==== Proof.KernelIdealEntries.lean ====
module
public import proofs.«01_k».proof.Proof.KernelIdealOperands
public import proofs.«01_k».proof.Proof.KernelIdealTotal
@[expose] public section
/-! The kernel's operands at real arguments: the split leaves its first part whole and the others zero, so that each dot product of
    forty-eight terms is one of eight, which is a squared distance. -/
namespace Cert.KernelIdeal.Run
open Cert.KernelIdeal Cert.KernelIdeal.Gen Cert.KernelIdeal.Launch
open Idealize.ShloMosaic hiding ix1 ix2 ix3 eq_ix3
open Idealize.ShloMosaic.ValueIdx

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Column `8 q + r` of six arrays side by side is column `r` of array `q`. -/
theorem six_apply (g : Fin 6 → Vec Ideal S4x4096x8 .bf16) (b : Fin 4) (i : Fin 4096) (q : Fin 6) (r : Fin 8) :
    six (g 0) (g 1) (g 2) (g 3) (g 4) (g 5) (ix3 b i (finProdFinEquiv (q, r))) = g q (ix3 b i r) := by
  refine concatenate_ofFn_apply (t := S4x4096x48) (s₁ := S4x4096x8) 2 g
    concatenates_S4x4096x8_S4x4096x8_S4x4096x8_S4x4096x8_S4x4096x8_S4x4096x8_S4x4096x48_d2 rfl 8 rfl _ q ?_ (ix3 b i r) ?_ ?_
  · show (r.val + 8 * q.val) / 8 = q.val
    omega
  · show r.val = (r.val + 8 * q.val) % 8
    omega
  · intro c hc
    match c, hc with
    | ⟨0, _⟩, _ => rfl
    | ⟨1, _⟩, _ => rfl
    | ⟨2, _⟩, hc => exact absurd rfl hc

/-- At real entries nothing is left over the leading part. -/
theorem rest_coe (a : S4x4096x8.Idx → ℝ) : rest (F := Ideal) (fun p => (a p : EReal)) = fun _ => (0 : EReal) := by
  funext p
  show (a p : EReal) - (a p : EReal) = 0
  rw [← EReal.coe_sub, sub_self, EReal.coe_zero]

/-- Each dot product of the split operands is the dot product of the eight columns. -/
theorem dot_split (a a' : S4x4096x8.Idx → ℝ) (b : Fin 4) (i j : Fin 4096) :
    dot (splitLeft (F := Ideal) fun p => (a p : EReal)) (splitRight (F := Ideal) fun p => (a' p : EReal)) b i j
      = ((∑ r : Fin 8, a (ix3 b i r) * a' (ix3 b j r) : ℝ) : EReal) := by
  have h0 : rest (F := Ideal) (fun _ => (0 : EReal)) = fun _ => (0 : EReal) := by
    have := rest_coe fun _ => (0 : ℝ)
    simpa using this
  unfold dot splitLeft splitRight
  rw [rest_coe, rest_coe, h0]
  let G : Fin 6 → Vec Ideal S4x4096x8 .bf16 := ![fun p => (a p : EReal), fun p => (a p : EReal), fun p => (a p : EReal), fun _ => (0 : EReal), fun _ => (0 : EReal), fun _ => (0 : EReal)]
  let H : Fin 6 → Vec Ideal S4x4096x8 .bf16 := ![fun p => (a' p : EReal), fun _ => (0 : EReal), fun _ => (0 : EReal), fun p => (a' p : EReal), fun _ => (0 : EReal), fun p => (a' p : EReal)]
  have e : ∀ k : Fin 6 × Fin 8,
      ((six (G 0) (G 1) (G 2) (G 3) (G 4) (G 5) (ix3 b i (finProdFinEquiv k)) : EReal)
        * six (H 0) (H 1) (H 2) (H 3) (H 4) (H 5) (ix3 b j (finProdFinEquiv k))) = G k.1 (ix3 b i k.2) * H k.1 (ix3 b j k.2) :=
    fun k => congrArg₂ (· * ·) (six_apply G b i k.1 k.2) (six_apply H b j k.1 k.2)
  refine (Equiv.sum_comp (finProdFinEquiv (m := 6) (n := 8)) _).symm.trans ?_
  refine (Finset.sum_congr rfl fun k _ => e k).trans ?_
  rw [Fintype.sum_prod_type, Fin.sum_univ_six]
  simp only [coe_sum, EReal.coe_mul]
  simp [G, H]

/-- The squared norm of a point. -/
noncomputable def norm2 (x : S4x4096x3.Idx → ℝ) (b : Fin 4) (i : Fin 4096) : ℝ := ∑ k : Fin 3, x (ix3 b i k) * x (ix3 b i k)
/-- The left operand's eight columns, as reals. -/
noncomputable def leftReal (x : S4x4096x3.Idx → ℝ) (p : S4x4096x8.Idx) : ℝ :=
  (![-2 * x (ix3 (p 0) (p 1) 0), -2 * x (ix3 (p 0) (p 1) 1), -2 * x (ix3 (p 0) (p 1) 2), norm2 x (p 0) (p 1), 1, 0, 0, 0] : Fin 8 → ℝ) (p 2)
/-- The right operand's eight columns, as reals. -/
noncomputable def rightReal (y : S4x4096x3.Idx → ℝ) (p : S4x4096x8.Idx) : ℝ :=
  (![y (ix3 (p 0) (p 1) 0), y (ix3 (p 0) (p 1) 1), y (ix3 (p 0) (p 1) 2), 1, norm2 y (p 0) (p 1), 0, 0, 0] : Fin 8 → ℝ) (p 2)

/-- The literal one. -/
theorem word_one : Ideal.ofBits .f32 0x3F800000#32 = (1 : EReal) := by
  simp [Ideal.ofBits, Ideal.ieee]; rw [← EReal.coe_mul, ← EReal.coe_one]; norm_num
/-- The literal minus two. -/
theorem word_neg_two : Ideal.ofBits .f32 0xC0000000#32 = ((-2 : ℝ) : EReal) := by
  simp [Ideal.ofBits, Ideal.ieee]; rw [← EReal.coe_mul]; norm_num

/-- One column made from one literal. -/
theorem splat1_apply (w : BitVec 32) (p : S4x4096x1.Idx) :
    broadcastInDim S4x4096x1 ![] bcast_S_S4x4096x1 (constant (F := Ideal) S_ .f32 w) p = Ideal.ofBits .f32 w := rfl
/-- Three columns made from one literal. -/
theorem splat3_apply (w : BitVec 32) (p : S4x4096x3.Idx) :
    broadcastInDim S4x4096x3 ![] bcast_S_S4x4096x3 (constant (F := Ideal) S_ .f32 w) p = Ideal.ofBits .f32 w := rfl

/-- The column of squared norms. -/
theorem norms_apply (x : S4x4096x3.Idx → ℝ) (b : Fin 4) (i : Fin 4096) :
    broadcastInDim S4x4096x1 ![0, 1] bcast_S4x4096_S4x4096x1_0_1
        (Host.reduceAdd (F := Ideal) (φ := .f32) (mulf (F := Ideal) (φ := .f32) (fun p => (x p : EReal)) fun p => (x p : EReal)) (constant S_ .f32 0x00000000#32) reducesTo_S4x4096x3_S4x4096_d2 h_S_)
        (ix3 b i 0) = (norm2 x b i : EReal) := by
  refine (broadcastInDim_apply _ _ _ _ (ix2 b i) fun a => match a with
    | ⟨0, _⟩ => rfl
    | ⟨1, _⟩ => rfl).trans ?_
  refine (Ideal.hostReduceAdd_single reducesTo_S4x4096x3_S4x4096_d2 (by decide) _ _ _).trans ?_
  refine (congrArg (· + _) word_zero).trans ?_
  rw [zero_add, norm2, coe_sum]
  refine Finset.sum_congr rfl fun k _ => ?_
  have hk : ∀ h : S4x4096x3.Reduces [2] S4x4096, h.lift (ix2 b i) k = ix3 b i k := fun h => by
    funext a; apply Fin.ext
    match a with
    | ⟨0, _⟩ => rfl
    | ⟨1, _⟩ => rfl
    | ⟨2, _⟩ => rfl
  rw [hk, EReal.coe_mul]
  rfl

/-- Three columns, one, one and three more, side by side. -/
def eight (A : Vec Ideal S4x4096x3 .f32) (B C : Vec Ideal S4x4096x1 .f32) (D : Vec Ideal S4x4096x3 .f32) : Vec Ideal S4x4096x8 .f32 :=
  concatenate S4x4096x8 2 [⟨S4x4096x3, A⟩, ⟨S4x4096x1, B⟩, ⟨S4x4096x1, C⟩, ⟨S4x4096x3, D⟩]
    concatenates_S4x4096x3_S4x4096x1_S4x4096x1_S4x4096x3_S4x4096x8_d2

/-- Side by side, the columns keep their entries. -/
theorem eight_apply (A : Vec Ideal S4x4096x3 .f32) (B C : Vec Ideal S4x4096x1 .f32) (D : Vec Ideal S4x4096x3 .f32)
    (b : Fin 4) (i : Fin 4096) (k : Fin 8) :
    eight A B C D (ix3 b i k) = (![A (ix3 b i 0), A (ix3 b i 1), A (ix3 b i 2), B (ix3 b i 0), C (ix3 b i 0),
      D (ix3 b i 0), D (ix3 b i 1), D (ix3 b i 2)] : Fin 8 → EReal) k := by
  have off : ∀ (n : ℕ) (l : Fin n) (k : Fin 8) (c : Fin 3), c.cast rfl ≠ (2 : Fin 3) →
      ((ix3 b i l : (⟨3, ![4, 4096, n]⟩ : Shape).Idx) c).val = ((ix3 b i k : S4x4096x8.Idx) (c.cast rfl)).val := fun n l k c hc => by
    match c, hc with
    | ⟨0, _⟩, _ => rfl
    | ⟨1, _⟩, _ => rfl
    | ⟨2, _⟩, hc => exact absurd rfl hc
  have inA : ∀ (l : Fin 3) (k : Fin 8), 0 + l.val = k.val → eight A B C D (ix3 b i k) = A (ix3 b i l) := fun l k hl =>
    concatenate_apply_piece (t := S4x4096x8) 2 _ _ (ix3 b i k) 0 (by show 0 < 4; omega) S4x4096x3 A rfl rfl 0 rfl (ix3 b i l) (off 3 l k) hl
  have inB : ∀ (k : Fin 8), 3 + 0 = k.val → eight A B C D (ix3 b i k) = B (ix3 b i 0) := fun k hl =>
    concatenate_apply_piece (t := S4x4096x8) 2 _ _ (ix3 b i k) 1 (by show 1 < 4; omega) S4x4096x1 B rfl rfl 3 rfl (ix3 b i 0) (off 1 0 k) hl
  have inC : ∀ (k : Fin 8), 4 + 0 = k.val → eight A B C D (ix3 b i k) = C (ix3 b i 0) := fun k hl =>
    concatenate_apply_piece (t := S4x4096x8) 2 _ _ (ix3 b i k) 2 (by show 2 < 4; omega) S4x4096x1 C rfl rfl 4 rfl (ix3 b i 0) (off 1 0 k) hl
  have inD : ∀ (l : Fin 3) (k : Fin 8), 5 + l.val = k.val → eight A B C D (ix3 b i k) = D (ix3 b i l) := fun l k hl =>
    concatenate_apply_piece (t := S4x4096x8) 2 _ _ (ix3 b i k) 3 (by show 3 < 4; omega) S4x4096x3 D rfl rfl 5 rfl (ix3 b i l) (off 3 l k) hl
  match k with
  | 0 => exact inA 0 _ rfl
  | 1 => exact inA 1 _ rfl
  | 2 => exact inA 2 _ rfl
  | 3 => exact inB _ rfl
  | 4 => exact inC _ rfl
  | 5 => exact inD 0 _ rfl
  | 6 => exact inD 1 _ rfl
  | 7 => exact inD 2 _ rfl

/-- At a real argument the left operand's columns are the real ones. -/
theorem leftCols_coe (x : S4x4096x3.Idx → ℝ) : leftCols (F := Ideal) (fun p => (x p : EReal)) = fun p => (leftReal x p : EReal) := by
  funext p
  obtain ⟨b, i, k, rfl⟩ : ∃ b i k, p = ix3 b i k := ⟨p 0, p 1, p 2, eq_ix3 p⟩
  have two : ∀ l : Fin 3, mulf (F := Ideal) (φ := .f32) (broadcastInDim S4x4096x3 ![] bcast_S_S4x4096x3 (constant S_ .f32 0xC0000000#32))
      (fun p => (x p : EReal)) (ix3 b i l) = ((-2 * x (ix3 b i l) : ℝ) : EReal) := fun l => by
    rw [EReal.coe_mul, ← word_neg_two]
    rfl
  refine (eight_apply _ _ _ _ b i k).trans ?_
  rw [two, two, two, norms_apply, splat1_apply, splat3_apply, splat3_apply, splat3_apply, word_one, word_zero]
  match k with
  | 0 | 1 | 2 | 3 | 4 | 5 | 6 | 7 => rfl

/-- At a real argument the right operand's columns are the real ones. -/
theorem rightCols_coe (y : S4x4096x3.Idx → ℝ) : rightCols (F := Ideal) (fun p => (y p : EReal)) = fun p => (rightReal y p : EReal) := by
  funext p
  obtain ⟨b, i, k, rfl⟩ : ∃ b i k, p = ix3 b i k := ⟨p 0, p 1, p 2, eq_ix3 p⟩
  refine (eight_apply _ _ _ _ b i k).trans ?_
  rw [norms_apply, splat1_apply, splat3_apply, splat3_apply, splat3_apply, word_one, word_zero]
  match k with
  | 0 | 1 | 2 | 3 | 4 | 5 | 6 | 7 => rfl

/-- The squared distance of two points, from their norms and their product. -/
noncomputable def sqDist (x y : S4x4096x3.Idx → ℝ) (b : Fin 4) (i j : Fin 4096) : ℝ :=
  norm2 x b i - 2 * (∑ k : Fin 3, x (ix3 b i k) * y (ix3 b j k)) + norm2 y b j

/-- At real arguments the kernel's dot products are the squared distances. -/
theorem dot_operands (x y : S4x4096x3.Idx → ℝ) (b : Fin 4) (i j : Fin 4096) :
    dot (splitLeft (leftCols (F := Ideal) fun p => (x p : EReal))) (splitRight (rightCols (F := Ideal) fun p => (y p : EReal))) b i j
      = (sqDist x y b i j : EReal) := by
  rw [leftCols_coe, rightCols_coe, dot_split]
  refine congrArg _ ?_
  simp only [Fin.sum_univ_eight, Fin.sum_univ_three, leftReal, rightReal, sqDist]
  show -2 * x (ix3 b i 0) * y (ix3 b j 0) + -2 * x (ix3 b i 1) * y (ix3 b j 1) + -2 * x (ix3 b i 2) * y (ix3 b j 2)
    + norm2 x b i * 1 + 1 * norm2 y b j + 0 * 0 + 0 * 0 + 0 * 0 = _
  ring
end Cert.KernelIdeal.Run
-- ==== Proof.Minima.lean ====
module
public import proofs.«01_k».proof.Proof.KernelIdealEntries
@[expose] public section
/-! Clipped minima of real tables: clipping before or after the minimum is the same, and the kernel's scalar at real arguments is
    therefore a real number. -/
namespace Cert.KernelIdeal.Run
open Cert.KernelIdeal Cert.KernelIdeal.Gen
open Idealize.ShloMosaic hiding ix1 ix2 ix3 eq_ix3
open Idealize.ShloMosaic.ValueIdx

/-- The smallest of 4096 reals, each raised to zero where negative. -/
noncomputable def minPos (d : Fin 4096 → ℝ) : ℝ := Finset.univ.inf' Finset.univ_nonempty fun j => max (d j) 0

/-- Among the extended reals, the infimum of the clipped numbers is that real number. -/
theorem inf_clipped (d : Fin 4096 → ℝ) : (Finset.univ.inf fun j => max (d j : EReal) 0) = (minPos d : EReal) := by
  have h0 : ∀ j, max (d j : EReal) 0 = ((max (d j) 0 : ℝ) : EReal) := fun j => by
    rw [EReal.coe_strictMono.monotone.map_max, EReal.coe_zero]
  rw [← Finset.inf'_eq_inf Finset.univ_nonempty]
  refine Eq.trans ?_ (Finset.apply_inf'_eq_inf'_comp Finset.univ_nonempty (fun r : ℝ => (r : EReal))
    fun a b => EReal.coe_strictMono.monotone.map_min).symm
  exact congrArg _ (funext h0)

/-- Clipping the infimum gives the same number as clipping first. -/
theorem clipped_inf (d : Fin 4096 → ℝ) : max (Finset.univ.inf fun j => (d j : EReal)) 0 = (minPos d : EReal) := by
  refine Eq.trans ?_ (inf_clipped d)
  exact Finset.inf_sup_distrib_right _ _ _

/-- The rows' share of a real table. -/
theorem rowShare_coe (d : Fin 4096 → Fin 4096 → ℝ) :
    rowShare (fun i j => (d i j : EReal)) = (((∑ i, minPos (d i)) * (1 / 16384) : ℝ) : EReal) := by
  rw [EReal.coe_mul, coe_sum]
  exact congrArg (fun z : EReal => z * ((1 / 16384 : ℝ) : EReal)) (Finset.sum_congr rfl fun i _ => clipped_inf (d i))

/-- The chamfer distance of two real clouds: the mean over the points of either one of the clipped squared distance to the nearest
    point of the other. -/
noncomputable def chamfer (x y : S4x4096x3.Idx → ℝ) : ℝ :=
  (∑ b : Fin 4, ∑ i : Fin 4096, minPos (sqDist x y b i)) * (1 / 16384)
    + (∑ b : Fin 4, ∑ j : Fin 4096, minPos fun i => sqDist x y b i j) * (1 / 16384)

/-- The kernel's scalar at real arguments. -/
theorem total_coe (x y : S4x4096x3.Idx → ℝ) :
    total (splitLeft (leftCols (F := Ideal) fun p => (x p : EReal))) (splitRight (rightCols (F := Ideal) fun p => (y p : EReal)))
      = (chamfer x y : EReal) := by
  have hd : ∀ b : Fin 4,
      dot (splitLeft (leftCols (F := Ideal) fun p => (x p : EReal))) (splitRight (rightCols (F := Ideal) fun p => (y p : EReal))) b
        = fun i j => (sqDist x y b i j : EReal) := fun b => funext fun i => funext fun j => dot_operands x y b i j
  have hr : ∀ b : Fin 4, rowShare (fun i j => (sqDist x y b i j : EReal)) = _ := fun b => rowShare_coe (sqDist x y b)
  have hc : ∀ b : Fin 4, rowShare (fun j i => (sqDist x y b i j : EReal)) = _ := fun b => rowShare_coe fun j i => sqDist x y b i j
  rw [total_eq]
  simp only [hd, hr, hc]
  rw [← EReal.coe_zero]
  simp only [← EReal.coe_add]
  refine congrArg _ ?_
  unfold chamfer
  rw [Fin.sum_univ_four, Fin.sum_univ_four]
  ring
end Cert.KernelIdeal.Run
-- ==== Proof.ReferenceValue.lean ====
module
public import proofs.«01_k».proof.Proof.Minima
public import proofs.«01_k».proof.Proof.Gen.ReferenceIdeal.Read
public import Idealize.ShloMosaic.Lib.Quiescent
@[expose] public section
/-! The reference at real arguments: its result is the same real number. -/
namespace Cert.ReferenceIdeal.Real
open Cert.ReferenceIdeal Cert.ReferenceIdeal.Gen Cert.ReferenceIdeal.Read Cert.KernelIdeal.Run
open Idealize.ShloMosaic hiding ix1 ix2 ix3 eq_ix3
open Idealize.ShloMosaic.ValueIdx Idealize.ShloMosaic.TcCoe Idealize.SL.Sem

/-- The literal two. -/
theorem word_two : Ideal.ofBits .f32 0x40000000#32 = ((2 : ℝ) : EReal) := by
  simp [Ideal.ofBits, Ideal.ieee]; rw [← EReal.coe_mul]; norm_num
/-- The literal 16384, the number of points in one argument. -/
theorem word_count : Ideal.ofBits .f32 0x46800000#32 = ((16384 : ℝ) : EReal) := by
  simp [Ideal.ofBits, Ideal.ieee]; rw [← EReal.coe_mul]; norm_num

variable (x y : S4x4096x3.Idx → ℝ)

/-- The squared norms of the first argument's points. -/
theorem norms_left (b : Fin 4) (i : Fin 4096) : val_main_v1 (F := Ideal) (fun p => (x p : EReal)) (ix2 b i) = (norm2 x b i : EReal) := by
  refine (val_main_v1_apply _ _).trans ?_
  refine (congrArg (· + _) word_zero).trans ?_
  rw [zero_add, norm2, coe_sum]
  refine Finset.sum_congr rfl fun k _ => ?_
  have hk : idx_main_v1 (ix2 b i) k = ix3 b i k := by
    funext a
    match a with
    | ⟨0, _⟩ | ⟨1, _⟩ | ⟨2, _⟩ => rfl
  rw [hk, EReal.coe_mul]
  rfl

/-- The squared norms of the second argument's points. -/
theorem norms_right (b : Fin 4) (j : Fin 4096) : val_main_v4 (F := Ideal) (fun p => (y p : EReal)) (ix2 b j) = (norm2 y b j : EReal) :=
  norms_left y b j

/-- The clipped squared distance of two points. -/
theorem table_apply (b : Fin 4) (i j : Fin 4096) :
    val_main_v15 (F := Ideal) (fun p => (x p : EReal)) (fun p => (y p : EReal)) (ix3 b i j) = max (sqDist x y b i j : EReal) 0 := by
  have h9 : val_main_v9 (F := Ideal) (fun p => (x p : EReal)) (ix3 b i j) = (norm2 x b i : EReal) := by
    refine (val_main_v9_apply _ _).trans ((val_main_v2_apply _ _).trans (Eq.trans (congrArg _ ?_) (norms_left x b i)))
    funext a
    match a with
    | ⟨0, _⟩ | ⟨1, _⟩ => rfl
  have h12 : val_main_v12 (F := Ideal) (fun p => (y p : EReal)) (ix3 b i j) = (norm2 y b j : EReal) := by
    refine (val_main_v12_apply _ _).trans ((val_main_v11_apply _ _).trans ((val_main_v5_apply _ _).trans
      (Eq.trans (congrArg _ ?_) (norms_right y b j))))
    funext a
    match a with
    | ⟨0, _⟩ | ⟨1, _⟩ => rfl
  have h6 : val_main_v6 (F := Ideal) (fun p => (x p : EReal)) (fun p => (y p : EReal)) (ix3 b i j)
      = ((∑ k : Fin 3, x (ix3 b i k) * y (ix3 b j k) : ℝ) : EReal) := by
    refine (val_main_v6_apply _ _ _).trans ?_
    rw [coe_sum]
    refine Finset.sum_congr rfl fun k _ => ?_
    have hl : lidx_main_v6 (ix3 b i j) k = ix3 b i k := by
      funext a
      match a with
      | ⟨0, _⟩ | ⟨1, _⟩ | ⟨2, _⟩ => rfl
    have hr : ridx_main_v6 (ix3 b i j) k = ix3 b j k := by
      funext a
      match a with
      | ⟨0, _⟩ | ⟨1, _⟩ | ⟨2, _⟩ => rfl
    rw [hl, hr, EReal.coe_mul]
  have h7 : val_main_v7 (F := Ideal) (ix3 b i j) = ((2 : ℝ) : EReal) := (val_main_v7_apply _).trans word_two
  have h14 : val_main_v14 (F := Ideal) (ix3 b i j) = (0 : EReal) := (val_main_v14_apply _).trans word_zero
  rw [sqDist, EReal.coe_add, EReal.coe_sub, EReal.coe_mul, ← h9, ← h12, ← h6, ← h7]
  exact congrArg (max _) h14

/-- The least clipped squared distance from a point of the first cloud. -/
theorem row_apply (b : Fin 4) (i : Fin 4096) :
    val_main_v16 (F := Ideal) (fun p => (x p : EReal)) (fun p => (y p : EReal)) (ix2 b i) = (minPos (sqDist x y b i) : EReal) := by
  refine (Host.reduce_eq_fold_single (FloatOps.minimumf (F := Ideal) (φ := .f32)) _ _ reducesTo_S4x4096x4096_S4x4096_d2 (by decide) h_S_ _).trans ?_
  refine (fold_min_top _ _).trans ?_
  refine Eq.trans ?_ (inf_clipped (sqDist x y b i))
  refine Finset.inf_congr rfl fun j _ => ?_
  have hk : ∀ h : S4x4096x4096.Reduces [2] S4x4096, h.lift (ix2 b i) j = ix3 b i j := fun h => by
    funext a; apply Fin.ext
    match a with
    | ⟨0, _⟩ => rfl
    | ⟨1, _⟩ => rfl
    | ⟨2, _⟩ => rfl
  rw [← table_apply x y b i j, Function.comp_apply, hk]
  rfl

/-- The least clipped squared distance from a point of the second cloud. -/
theorem col_apply (b : Fin 4) (j : Fin 4096) :
    val_main_v17 (F := Ideal) (fun p => (x p : EReal)) (fun p => (y p : EReal)) (ix2 b j) = (minPos (fun i => sqDist x y b i j) : EReal) := by
  refine (Host.reduce_eq_fold_single (FloatOps.minimumf (F := Ideal) (φ := .f32)) _ _ reducesTo_S4x4096x4096_S4x4096_d1 (by decide) h_S_ _).trans ?_
  refine (fold_min_top _ _).trans ?_
  refine Eq.trans ?_ (inf_clipped fun i => sqDist x y b i j)
  refine Finset.inf_congr rfl fun i _ => ?_
  have hk : ∀ h : S4x4096x4096.Reduces [1] S4x4096, h.lift (ix2 b j) i = ix3 b i j := fun h => by
    funext a; apply Fin.ext
    match a with
    | ⟨0, _⟩ => rfl
    | ⟨1, _⟩ => rfl
    | ⟨2, _⟩ => rfl
  rw [← table_apply x y b i j, Function.comp_apply, hk]
  rfl

/-- The sum of a real array of two axes, divided by the number of points. -/
theorem mean_coe (v : S4x4096.Idx → EReal) (r : Fin 4 → Fin 4096 → ℝ) (h : ∀ b i, v (ix2 b i) = (r b i : EReal)) :
    Ideal.div (Ideal.ofBits .f32 0x00000000#32 + ∑ p : S4x4096.Idx, v p) (Ideal.ofBits .f32 0x46800000#32)
      = (((∑ b : Fin 4, ∑ i : Fin 4096, r b i) * (1 / 16384) : ℝ) : EReal) := by
  rw [word_count, Ideal.div_coe (by norm_num : (16384 : ℝ) ≠ 0), word_zero, zero_add, EReal.coe_mul, ValueIdx.sum_idx2]
  simp only [h, coe_sum]

/-- The reference's result at real arguments. -/
theorem result_coe (i : S_.Idx) :
    val_main_v22 (F := Ideal) (fun p => (x p : EReal)) (fun p => (y p : EReal)) i = (chamfer x y : EReal) := by
  rw [chamfer, EReal.coe_add]
  refine congrArg₂ (fun a b : EReal => a + b) ?_ ?_
  · refine Eq.trans ?_ (mean_coe _ _ (row_apply x y))
    exact congrArg (fun z : EReal => Ideal.div z (Ideal.ofBits .f32 0x46800000#32)) (val_main_v18_apply _ _ _)
  · refine Eq.trans ?_ (mean_coe _ _ (col_apply x y))
    exact congrArg (fun z : EReal => Ideal.div z (Ideal.ofBits .f32 0x46800000#32)) (val_main_v20_apply _ _ _)

/-- The reference terminates with its arguments unchanged and no counter raised: it has none. -/
theorem quiet (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) _⟩) (Value.run m ρ)
end Cert.ReferenceIdeal.Real
-- ==== Proof.Finite.lean ====
module
public import proofs.«01_k».proof.Pre_finite
public import proofs.«01_k».proof.Proof.KernelIdealTotal
@[expose] public section
/-! What the precondition says of the ideal values: both arrays hold real numbers. -/
namespace Cert.Pre_finite
open Idealize.ShloMosaic

/-- The one shape fact the precondition's operations take. -/
theorem facts : Facts := ⟨by decide⟩

/-- An extended real below plus infinity in absolute value is a real number. -/
theorem real_of_abs_lt (a : EReal) (h : max a (-a) < ⊤) : ∃ r : ℝ, a = (r : EReal) := by
  obtain ⟨h1, h2⟩ := max_lt_iff.mp h
  refine ⟨a.toReal, (EReal.coe_toReal h1.ne fun hb => ?_).symm⟩
  rw [hb, EReal.neg_bot] at h2
  exact lt_irrefl _ h2

/-- Two arrays that satisfy the precondition hold real numbers. -/
theorem reals [Facts] (x y : FVec Ideal S4x4096x3 .f32) (h : fn (F := Ideal) x y = fun _ => 1#1) :
    ∃ u v : S4x4096x3.Idx → ℝ, x = (fun p => (u p : EReal)) ∧ y = fun p => (v p : EReal) := by
  have key : ∀ a : EReal, Ideal.cmp .olt (max a (-a)) (Ideal.ofBits .f32 0x7F800000#32) = 1#1 → ∃ r : ℝ, a = (r : EReal) := fun a ha => by
    rw [Cert.KernelIdeal.Run.word_top] at ha
    refine real_of_abs_lt a ?_
    by_contra hn
    simp [Ideal.cmp, hn] at ha
  have both : ∀ s t : BitVec 1, s &&& t = 1#1 → s = 1#1 ∧ t = 1#1 := by decide
  have hp : ∀ p, (∃ r : ℝ, x p = (r : EReal)) ∧ ∃ r : ℝ, y p = (r : EReal) := fun p => by
    have e : Ideal.cmp .olt (max (x p : EReal) (-(x p))) (Ideal.ofBits .f32 0x7F800000#32)
        &&& Ideal.cmp .olt (max (y p : EReal) (-(y p))) (Ideal.ofBits .f32 0x7F800000#32) = 1#1 := congrFun h p
    obtain ⟨ex, ey⟩ := both _ _ e
    exact ⟨key _ ex, key _ ey⟩
  choose u hu using fun p => (hp p).1
  choose v hv using fun p => (hp p).2
  exact ⟨u, v, funext hu, funext hv⟩
end Cert.Pre_finite
-- ==== Proof.lean ====
module

public import proofs.«01_k».proof.Defs
public import proofs.«01_k».proof.Proof.KernelRun
public import proofs.«01_k».proof.Proof.Minima
public import proofs.«01_k».proof.Proof.ReferenceValue
public import proofs.«01_k».proof.Proof.Finite

@[expose] public section

noncomputable section

namespace Cert.Proof

open Idealize.ShloMosaic Idealize.SL.Sem

/-- Every claim of the certificate. -/
theorem claim : Cert.Claim := by
  refine ⟨Cert.Kernel.Gen.facts, Cert.KernelIdeal.Gen.facts, Cert.ReferenceIdeal.Gen.facts, Cert.Pre_finite.facts, ?_, ?_, ?_, ?_, ?_, ?_, ?_⟩
  · intro m g _
    exact (θ_run _ _ _).mono (fun r h => ⟨fun c => (h.1 c).2, h.2⟩) (Cert.Kernel.Run.run m g)
  · intro m g _
    exact (θ_run _ _ _).mono (fun r h => ⟨fun c => (h.1 c).2, h.2⟩) (Cert.KernelIdeal.Run.run m g)
  · intro m g _
    exact (θ_run _ _ _).mono (fun r h => ⟨fun c => (h.1 c).2, h.2⟩) (Cert.KernelIdeal.Run.run m g)
  · intro m g _
    exact Cert.ReferenceIdeal.Real.quiet m g
  · intro m g _
    exact Cert.ReferenceIdeal.Real.quiet m g
  · trivial
  · intro m g m' g' hp hm
    have real := fun c => @Cert.Pre_finite.reals Cert.Pre_finite.facts _ _ (hp c)
    choose x y hx hy using real
    refine ⟨fun c _ => (Cert.KernelIdeal.Run.chamfer (x c) (y c) : EReal), ?_, ?_⟩
    · refine (θ_run _ _ _).mono (fun r h c => ⟨(h.1 c).1.trans (funext fun _ => ?_), (h.1 c).2⟩) (Cert.KernelIdeal.Run.run m g)
      rw [Cert.KernelIdeal.Run.opX_eq, Cert.KernelIdeal.Run.opY_eq, hx c, hy c]
      exact Cert.KernelIdeal.Run.total_coe (x c) (y c)
    · refine (θ_run _ _ _).mono (fun r h c => ⟨(h c).1.trans ?_, (h c).2⟩) (Cert.ReferenceIdeal.Value.run m' g')
      rw [(hm c).1, (hm c).2, hx c, hy c]
      exact (Cert.ReferenceIdeal.Read.val_main_v22_eq _ _).trans (funext (Cert.ReferenceIdeal.Real.result_coe (x c) (y c)))

end Cert.Proof

end
